-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x2048x1024 : Shape := ⟨3, ![8, 2048, 1024]⟩
abbrev S8x256x2 : Shape := ⟨3, ![8, 256, 2]⟩
abbrev S1024x1 : Shape := ⟨2, ![1024, 1]⟩
abbrev S1 : Shape := ⟨1, ![1]⟩
abbrev S8x256x1 : Shape := ⟨3, ![8, 256, 1]⟩
abbrev S_ : Shape := ⟨0, ![]⟩

class Facts : Prop where
  slices_S8x256x2_S8x256x1_0_0_0 : S8x256x2.Slices ![0, 0, 0] S8x256x1
  slices_S8x256x2_S8x256x1_0_0_1 : S8x256x2.Slices ![0, 0, 1] S8x256x1
  bcast_S_S8x2048x1024 : S_.BroadcastsInDim S8x2048x1024 (![] : Fin 0 → Fin S8x2048x1024.rank)
  bcast_S_S1024x1 : S_.BroadcastsInDim S1024x1 (![] : Fin 0 → Fin S1024x1.rank)
  bcast_S_S1 : S_.BroadcastsInDim S1 (![] : Fin 0 → Fin S1.rank)
  bcast_S_S8x256x1 : S_.BroadcastsInDim S8x256x1 (![] : Fin 0 → Fin S8x256x1.rank)

variable [Facts]

def fn {F : FTy → Type} [FloatOps F] (main_arg0 : FVec F S8x2048x1024 .f32) (main_arg1 : IVec S8x256x2 32) (main_arg2 : FVec F S1024x1 .f32) (main_arg3 : FVec F S1 .f32) : IVec S8x2048x1024 1 × IVec S1024x1 1 × IVec S1 1 × IVec S8x256x1 1 :=
  let main_v0 : IVec S8x256x1 32 := (extractStridedSlice S8x256x1 ![0, 0, 0] · slices_S8x256x2_S8x256x1_0_0_0) main_arg1
  let main_v1 : IVec S8x256x1 32 := (extractStridedSlice S8x256x1 ![0, 0, 1] · slices_S8x256x2_S8x256x1_0_0_1) main_arg1
  let main_v2 : FVec F S8x2048x1024 .f32 := Host.absf main_arg0
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_v5 : FVec F S1024x1 .f32 := Host.absf main_arg2
  let main_cst_0 : FVec F S_ .f32 := constant S_ .f32 0x7F800000#32
  let main_v6 : FVec F S1024x1 .f32 := broadcastInDim S1024x1 ![] bcast_S_S1024x1 main_cst_0
  let main_v7 : IVec S1024x1 1 := cmpf .olt main_v5 main_v6
  let main_v8 : FVec F S1 .f32 := Host.absf main_arg3
  let main_cst_1 : FVec F S_ .f32 := constant S_ .f32 0x7F800000#32
  let main_v9 : FVec F S1 .f32 := broadcastInDim S1 ![] bcast_S_S1 main_cst_1
  let main_v10 : IVec S1 1 := cmpf .olt main_v8 main_v9
  let main_c : IVec S_ 32 := constantI S_ 32 0#32
  let main_v11 : IVec S8x256x1 32 := broadcastInDim S8x256x1 ![] bcast_S_S8x256x1 main_c
  let main_v12 : IVec S8x256x1 1 := cmpi .sge main_v0 main_v11
  let main_v13 : IVec S8x256x1 1 := cmpi .sle main_v0 main_v1
  let main_v14 : IVec S8x256x1 1 := andi main_v12 main_v13
  let main_c_2 : IVec S_ 32 := constantI S_ 32 2048#32
  let main_v15 : IVec S8x256x1 32 := broadcastInDim S8x256x1 ![] bcast_S_S8x256x1 main_c_2
  let main_v16 : IVec S8x256x1 1 := cmpi .slt main_v1 main_v15
  let main_v17 : IVec S8x256x1 1 := andi main_v14 main_v16
  (main_v4, main_v7, main_v10, main_v17)
-- ==== Kernel.lean ====
abbrev S8x2048x1024 : Shape := ⟨3, ![8, 2048, 1024]⟩
abbrev S8x256x2 : Shape := ⟨3, ![8, 256, 2]⟩
abbrev S1024x1 : Shape := ⟨2, ![1024, 1]⟩
abbrev S1 : Shape := ⟨1, ![1]⟩
abbrev S8x2x256 : Shape := ⟨3, ![8, 2, 256]⟩
abbrev S1x1024 : Shape := ⟨2, ![1, 1024]⟩
abbrev S8x256x3072 : Shape := ⟨3, ![8, 256, 3072]⟩
abbrev S1x2048x1024 : Shape := ⟨3, ![1, 2048, 1024]⟩
abbrev S1x2x256 : Shape := ⟨3, ![1, 2, 256]⟩
abbrev S1x256x3072 : Shape := ⟨3, ![1, 256, 3072]⟩
abbrev S2048x1024 : Shape := ⟨2, ![2048, 1024]⟩
abbrev S2x256 : Shape := ⟨2, ![2, 256]⟩
abbrev S1x256 : Shape := ⟨2, ![1, 256]⟩
abbrev S2048x1 : Shape := ⟨2, ![2048, 1]⟩
abbrev S1x512 : Shape := ⟨2, ![1, 512]⟩
abbrev S2048x512 : Shape := ⟨2, ![2048, 512]⟩
abbrev S512x1024 : Shape := ⟨2, ![512, 1024]⟩
abbrev S256x1024 : Shape := ⟨2, ![256, 1024]⟩
abbrev S1x256x1024 : Shape := ⟨3, ![1, 256, 1024]⟩
abbrev S2048x256 : Shape := ⟨2, ![2048, 256]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S8x256x2, .i32⟩
  | .hbm, ⟨2, _⟩ => ⟨S1024x1, .f32⟩
  | .hbm, ⟨3, _⟩ => ⟨S1, .f32⟩
  | .hbm, ⟨4, _⟩ => ⟨S8x2x256, .i32⟩
  | .hbm, ⟨5, _⟩ => ⟨S1x1024, .f32⟩
  | .hbm, ⟨6, _⟩ => ⟨S8x256x3072, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2x256, .i32⟩
  | .local _ .vmem, ⟨3, _⟩ => ⟨S1x2x256, .i32⟩
  | .local _ .vmem, ⟨4, _⟩ => ⟨S1x1024, .f32⟩
  | .local _ .vmem, ⟨5, _⟩ => ⟨S1x256x3072, .f32⟩
  | .local _ .vmem, ⟨6, _⟩ => ⟨S1x256x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x2048x1024 : Shape := ⟨3, ![8, 2048, 1024]⟩
abbrev S8x256x2 : Shape := ⟨3, ![8, 256, 2]⟩
abbrev S1024x1 : Shape := ⟨2, ![1024, 1]⟩
abbrev S1 : Shape := ⟨1, ![1]⟩
abbrev S8x2048x1 : Shape := ⟨3, ![8, 2048, 1]⟩
abbrev S1x1x1 : Shape := ⟨3, ![1, 1, 1]⟩
abbrev S8x2048 : Shape := ⟨2, ![8, 2048]⟩
abbrev S8x256x1 : Shape := ⟨3, ![8, 256, 1]⟩
abbrev S8x256 : Shape := ⟨2, ![8, 256]⟩
abbrev S2048 : Shape := ⟨1, ![2048]⟩
abbrev S1x1x2048 : Shape := ⟨3, ![1, 1, 2048]⟩
abbrev S8x256x2048 : Shape := ⟨3, ![8, 256, 2048]⟩
abbrev S8x1x2048 : Shape := ⟨3, ![8, 1, 2048]⟩
abbrev S_ : Shape := ⟨0, ![]⟩
abbrev S8x256x1024 : Shape := ⟨3, ![8, 256, 1024]⟩
abbrev S8x256x3072 : Shape := ⟨3, ![8, 256, 3072]⟩

abbrev nBuf : Space → Nat
  | .hbm => 93
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x2, .i32⟩
  | .hbm, ⟨2, _⟩ => ⟨S1024x1, .f32⟩
  | .hbm, ⟨3, _⟩ => ⟨S1, .f32⟩
  | .hbm, ⟨4, _⟩ => ⟨S8x2048x1, .f32⟩
  | .hbm, ⟨5, _⟩ => ⟨S1x1x1, .f32⟩
  | .hbm, ⟨6, _⟩ => ⟨S8x2048x1, .f32⟩
  | .hbm, ⟨7, _⟩ => ⟨S8x2048x1, .f32⟩
  | .hbm, ⟨8, _⟩ => ⟨S8x2048, .f32⟩
  | .hbm, ⟨9, _⟩ => ⟨S8x256x1, .i32⟩
  | .hbm, ⟨10, _⟩ => ⟨S8x256, .i32⟩
  | .hbm, ⟨11, _⟩ => ⟨S8x256x1, .i32⟩
  | .hbm, ⟨12, _⟩ => ⟨S8x256, .i32⟩
  | .hbm, ⟨13, _⟩ => ⟨S2048, .i32⟩
  | .hbm, ⟨14, _⟩ => ⟨S1x1x2048, .i32⟩
  | .hbm, ⟨15, _⟩ => ⟨S8x256x1, .i32⟩
  | .hbm, ⟨16, _⟩ => ⟨S8x256x2048, .i32⟩
  | .hbm, ⟨17, _⟩ => ⟨S8x256x2048, .i32⟩
  | .hbm, ⟨18, _⟩ => ⟨S8x256x2048, .i1⟩
  | .hbm, ⟨19, _⟩ => ⟨S1x1x2048, .i32⟩
  | .hbm, ⟨20, _⟩ => ⟨S8x256x1, .i32⟩
  | .hbm, ⟨21, _⟩ => ⟨S8x256x2048, .i32⟩
  | .hbm, ⟨22, _⟩ => ⟨S8x256x2048, .i32⟩
  | .hbm, ⟨23, _⟩ => ⟨S8x256x2048, .i1⟩
  | .hbm, ⟨24, _⟩ => ⟨S8x256x2048, .i1⟩
  | .hbm, ⟨25, _⟩ => ⟨S8x1x2048, .f32⟩
  | .hbm, ⟨26, _⟩ => ⟨S_, .f32⟩
  | .hbm, ⟨27, _⟩ => ⟨S_, .f32⟩
  | .hbm, ⟨28, _⟩ => ⟨S8x256x2048, .f32⟩
  | .hbm, ⟨29, _⟩ => ⟨S8x256x2048, .f32⟩
  | .hbm, ⟨30, _⟩ => ⟨S8x256x2048, .f32⟩
  | .hbm, ⟨31, _⟩ => ⟨S_, .f32⟩
  | .hbm, ⟨32, _⟩ => ⟨S8x256, .f32⟩
  | .hbm, ⟨33, _⟩ => ⟨S_, .f32⟩
  | .hbm, ⟨34, _⟩ => ⟨S8x256, .f32⟩
  | .hbm, ⟨35, _⟩ => ⟨S8x256, .f32⟩
  | .hbm, ⟨36, _⟩ => ⟨S8x256x1, .f32⟩
  | .hbm, ⟨37, _⟩ => ⟨S8x256x2048, .f32⟩
  | .hbm, ⟨38, _⟩ => ⟨S8x256x2048, .f32⟩
  | .hbm, ⟨39, _⟩ => ⟨S8x256x2048, .f32⟩
  | .hbm, ⟨40, _⟩ => ⟨S_, .f32⟩
  | .hbm, ⟨41, _⟩ => ⟨S8x256, .f32⟩
  | .hbm, ⟨42, _⟩ => ⟨S8x256x1, .f32⟩
  | .hbm, ⟨43, _⟩ => ⟨S8x256x2048, .f32⟩
  | .hbm, ⟨44, _⟩ => ⟨S8x256x2048, .f32⟩
  | .hbm, ⟨45, _⟩ => ⟨S8x256x1024, .f32⟩
  | .hbm, ⟨46, _⟩ => ⟨S8x256x1, .i32⟩
  | .hbm, ⟨47, _⟩ => ⟨S_, .i32⟩
  | .hbm, ⟨48, _⟩ => ⟨S8x256x1, .i32⟩
  | .hbm, ⟨49, _⟩ => ⟨S8x256x1, .i1⟩
  | .hbm, ⟨50, _⟩ => ⟨S_, .i32⟩
  | .hbm, ⟨51, _⟩ => ⟨S8x256x1, .i32⟩
  | .hbm, ⟨52, _⟩ => ⟨S8x256x1, .i32⟩
  | .hbm, ⟨53, _⟩ => ⟨S8x256x1, .i32⟩
  | .hbm, ⟨54, _⟩ => ⟨S1, .i32⟩
  | .hbm, ⟨55, _⟩ => ⟨S_, .i32⟩
  | .hbm, ⟨56, _⟩ => ⟨S8x256x1, .i32⟩
  | .hbm, ⟨57, _⟩ => ⟨S8x256x1, .i1⟩
  | .hbm, ⟨58, _⟩ => ⟨S1x1x1, .i32⟩
  | .hbm, ⟨59, _⟩ => ⟨S8x256x1, .i32⟩
  | .hbm, ⟨60, _⟩ => ⟨S8x256x1, .i1⟩
  | .hbm, ⟨61, _⟩ => ⟨S8x256x1, .i1⟩
  | .hbm, ⟨62, _⟩ => ⟨S_, .i1⟩
  | .hbm, ⟨63, _⟩ => ⟨S8x256, .i1⟩
  | .hbm, ⟨64, _⟩ => ⟨S8x256x1024, .f32⟩
  | .hbm, ⟨65, _⟩ => ⟨S8x256x1024, .i1⟩
  | .hbm, ⟨66, _⟩ => ⟨S_, .f32⟩
  | .hbm, ⟨67, _⟩ => ⟨S8x256x1024, .f32⟩
  | .hbm, ⟨68, _⟩ => ⟨S8x256x1024, .f32⟩
  | .hbm, ⟨69, _⟩ => ⟨S8x256x1, .i32⟩
  | .hbm, ⟨70, _⟩ => ⟨S_, .i32⟩
  | .hbm, ⟨71, _⟩ => ⟨S8x256x1, .i32⟩
  | .hbm, ⟨72, _⟩ => ⟨S8x256x1, .i1⟩
  | .hbm, ⟨73, _⟩ => ⟨S_, .i32⟩
  | .hbm, ⟨74, _⟩ => ⟨S8x256x1, .i32⟩
  | .hbm, ⟨75, _⟩ => ⟨S8x256x1, .i32⟩
  | .hbm, ⟨76, _⟩ => ⟨S8x256x1, .i32⟩
  | .hbm, ⟨77, _⟩ => ⟨S1, .i32⟩
  | .hbm, ⟨78, _⟩ => ⟨S_, .i32⟩
  | .hbm, ⟨79, _⟩ => ⟨S8x256x1, .i32⟩
  | .hbm, ⟨80, _⟩ => ⟨S8x256x1, .i1⟩
  | .hbm, ⟨81, _⟩ => ⟨S1x1x1, .i32⟩
  | .hbm, ⟨82, _⟩ => ⟨S8x256x1, .i32⟩
  | .hbm, ⟨83, _⟩ => ⟨S8x256x1, .i1⟩
  | .hbm, ⟨84, _⟩ => ⟨S8x256x1, .i1⟩
  | .hbm, ⟨85, _⟩ => ⟨S_, .i1⟩
  | .hbm, ⟨86, _⟩ => ⟨S8x256, .i1⟩
  | .hbm, ⟨87, _⟩ => ⟨S8x256x1024, .f32⟩
  | .hbm, ⟨88, _⟩ => ⟨S8x256x1024, .i1⟩
  | .hbm, ⟨89, _⟩ => ⟨S_, .f32⟩
  | .hbm, ⟨90, _⟩ => ⟨S8x256x1024, .f32⟩
  | .hbm, ⟨91, _⟩ => ⟨S8x256x1024, .f32⟩
  | .hbm, ⟨92, _⟩ => ⟨S8x256x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_c_2 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v36 : Ref sig .tc := ⟨.hbm, 68, rfl⟩
abbrev main_v37 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_c_2 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_c_3 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_cst : Ref sig .tc := ⟨.hbm, 89, rfl⟩
abbrev main_call2_v14 : Ref sig .tc := ⟨.hbm, 90, rfl⟩
abbrev main_v38 : Ref sig .tc := ⟨.hbm, 91, rfl⟩
abbrev main_v39 : Ref sig .tc := ⟨.hbm, 92, rfl⟩

abbrev nD : Nat := 1
abbrev τ : Topo := Topo.v7x

variable {F : FTy → Type} [FloatOps F]
-- ==== Proof.SpanMean.lean ====
/- The mathematics of the span attention, apart from any program: the mean of a real row over the positions of a span,
   weighted by the exponentials of real scores. Two formulas over the extended reals have this mean as their value: a product
   with the weights left as they are, times the reciprocal of their sum; and a product with the weights of a softmax whose
   logits are shifted, masked to -∞ outside the span, and lowered by their largest. -/
module

public import Idealize.ShloMosaic.PureOps.Ideal
public import Mathlib.Data.EReal.Inv

@[expose] public section

noncomputable section

namespace Cert.SpanMean

open Idealize.ShloMosaic

variable {ι : Type} [Fintype ι] (P : ι → Prop) [DecidablePred P]

/-- The weight of position `t`: the exponential of its score inside the span, 0 outside. -/
def weight (σ : ι → ℝ) (t : ι) : ℝ := if P t then Real.exp (σ t) else 0

/-- The sum of the weights. -/
def total (σ : ι → ℝ) : ℝ := ∑ t, weight P σ t

/-- The mean of `v` over the span, weighted by the exponentials of the scores. -/
def mean (σ v : ι → ℝ) : ℝ := (∑ t, weight P σ t * v t) / total P σ

/-- A finite sum of reals, taken in the extended reals, is the real sum. -/
theorem coe_sum (f : ι → ℝ) : (∑ t, (f t : EReal)) = ((∑ t, f t : ℝ) : EReal) := by
  classical
  induction (Finset.univ : Finset ι) using Finset.induction_on with
  | empty => simp
  | insert a s ha ih => rw [Finset.sum_insert ha, Finset.sum_insert ha, ih, EReal.coe_add]

/-- No weight is negative. -/
theorem weight_nonneg (σ : ι → ℝ) (t : ι) : 0 ≤ weight P σ t := by
  unfold weight
  split
  · exact (Real.exp_pos _).le
  · exact le_rfl

/-- Over a span that has a position, the weights sum to a positive number. -/
theorem total_pos (σ : ι → ℝ) (hP : ∃ t, P t) : 0 < total P σ := by
  obtain ⟨t, ht⟩ := hP
  refine Finset.sum_pos' (fun u _ => weight_nonneg P σ u) ⟨t, Finset.mem_univ t, ?_⟩
  rw [weight, if_pos ht]
  exact Real.exp_pos _

/-- Division of two reals whose divisor isn't 0. -/
theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- The unnormalised weight in the extended reals is the real weight. -/
theorem coe_weight (σ : ι → ℝ) (t : ι) :
    (if P t then Ideal.exp (σ t : EReal) else 0) = (weight P σ t : EReal) := by
  unfold weight
  split
  · rw [Ideal.exp_coe]
  · rfl

/-- The unnormalised weights against `v`, times the reciprocal of their sum, are the weighted mean. -/
theorem unnormalised_eq_mean (σ v : ι → ℝ) (hP : ∃ t, P t) :
    (∑ t, (if P t then Ideal.exp (σ t : EReal) else 0) * (v t : EReal))
        * Ideal.div 1 (∑ t, if P t then Ideal.exp (σ t : EReal) else 0)
      = (mean P σ v : EReal) := by
  have hD := total_pos P σ hP
  simp only [coe_weight P σ, ← EReal.coe_mul, coe_sum]
  show _ * Ideal.div ((1 : ℝ) : EReal) ((total P σ : ℝ) : EReal) = _
  rw [div_coe _ _ hD.ne', ← EReal.coe_mul, mean, mul_one_div]

/-- The masked logit at position `t`: the shifted score inside the span, -∞ outside. -/
def logit (σ : ι → ℝ) (β : ℝ) (t : ι) : EReal := if P t then (σ t : EReal) + (β : EReal) else ⊥

/-- The largest masked logit of a span that has a position is a real number. -/
theorem max_real (σ : ι → ℝ) (β : ℝ) (hP : ∃ t, P t) :
    ∃ M : ℝ, max ⊥ (Finset.univ.fold max ⊥ (logit P σ β)) = (M : EReal) := by
  have hb : Finset.univ.fold max ⊥ (logit P σ β) = Finset.univ.sup (logit P σ β) := rfl
  obtain ⟨t₀, ht₀⟩ := hP
  obtain ⟨t, -, ht⟩ := Finset.exists_mem_eq_sup Finset.univ ⟨t₀, Finset.mem_univ _⟩ (logit P σ β)
  have hle : logit P σ β t₀ ≤ logit P σ β t := ht ▸ Finset.le_sup (Finset.mem_univ t₀)
  have h₀ : logit P σ β t₀ = ((σ t₀ + β : ℝ) : EReal) := by rw [logit, if_pos ht₀, EReal.coe_add]
  by_cases h : P t
  · refine ⟨σ t + β, ?_⟩
    rw [hb, ht, logit, if_pos h, EReal.coe_add, max_eq_right bot_le]
  · rw [h₀, logit, if_neg h] at hle
    exact absurd hle (not_le_of_gt (EReal.bot_lt_coe _))

/-- The exponential of a masked logit lowered by a real `M`: the real weight times `exp (β - M)`. -/
theorem exp_logit (σ : ι → ℝ) (β M : ℝ) (t : ι) :
    Ideal.exp (logit P σ β t - (M : EReal)) = ((weight P σ t * Real.exp (β - M) : ℝ) : EReal) := by
  unfold logit weight
  split
  · rw [← EReal.coe_add, ← EReal.coe_sub, Ideal.exp_coe, ← Real.exp_add]
    congr 2
    ring
  · rw [EReal.bot_sub, Ideal.exp_bot, zero_mul, EReal.coe_zero]

/-- The softmax of the masked logits against `v` is the weighted mean: the shift and the maximum cancel. -/
theorem softmax_eq_mean (σ v : ι → ℝ) (β : ℝ) (hP : ∃ t, P t) :
    (∑ t, Ideal.div (Ideal.exp (logit P σ β t - max ⊥ (Finset.univ.fold max ⊥ (logit P σ β))))
          (∑ u, Ideal.exp (logit P σ β u - max ⊥ (Finset.univ.fold max ⊥ (logit P σ β)))) * (v t : EReal))
      = (mean P σ v : EReal) := by
  obtain ⟨M, hM⟩ := max_real P σ β hP
  have hD := total_pos P σ hP
  have he := Real.exp_pos (β - M)
  have hsum : ∑ u, weight P σ u * Real.exp (β - M) = total P σ * Real.exp (β - M) := (Finset.sum_mul _ _ _).symm
  simp only [hM, exp_logit, coe_sum, hsum, div_coe _ _ (mul_pos hD he).ne', ← EReal.coe_mul]
  congr 1
  rw [mean, Finset.sum_div]
  refine Finset.sum_congr rfl fun t _ => ?_
  rw [mul_div_mul_right _ _ he.ne']
  ring

/-- A one-hot sum picks the one element. -/
theorem sum_one_hot [DecidableEq ι] (f : ι → EReal) (a : ι) : (∑ t, if t = a then f t else 0) = f a := by
  rw [Finset.sum_ite_eq' Finset.univ a f, if_pos (Finset.mem_univ a)]

end Cert.SpanMean

end
-- ==== Proof.SpanWords.lean ====
/- The words of a span: what the comparisons of position words with the two bounds of a span select, when the bounds are
   the words of positions below 2048. -/
module

public import Idealize.ShloMosaic.Lib.WordCmp
public import Idealize.ShloMosaic.PureOps.Ideal

@[expose] public section

namespace Cert.SpanWords

open Idealize.ShloMosaic Idealize.ShloMosaic.WordCmp

variable {α : Type}

/-- Position `t` is in the span from `a` to `b`, both included. -/
def InSpan (a b t : Fin 2048) : Prop := a ≤ t ∧ t ≤ b

instance (a b : Fin 2048) : DecidablePred (InSpan a b) := fun t => inferInstanceAs (Decidable (a ≤ t ∧ t ≤ b))

/-- A span whose start is no later than its end has a position. -/
theorem exists_inSpan {a b : Fin 2048} (h : a ≤ b) : ∃ t, InSpan a b t := ⟨a, le_refl a, h⟩

/-- The mask bit "`t` is at least the start and at most the end" selects by membership in the span. -/
theorem select_inSpan (a b t : Fin 2048) (x y : α) :
    Scalar.select (IntOp.andi (IntOp.cmpi .sge (BitVec.ofNat 32 t.val) (BitVec.ofNat 32 a.val))
        (IntOp.cmpi .sle (BitVec.ofNat 32 t.val) (BitVec.ofNat 32 b.val))) x y
      = if InSpan a b t then x else y := by
  have ha := a.isLt
  have hb := b.isLt
  have ht := t.isLt
  rw [cmpi_sge_ofNat (by omega) (by omega), cmpi_sle_ofNat (by omega) (by omega), andi_ofBool, select_ofBool]
  simp only [InSpan, Bool.and_eq_true, decide_eq_true_eq, Fin.le_def, ge_iff_le]

/-- The bit "`t` is position `a`" selects by equality. -/
theorem select_eq (a t : Fin 2048) (x y : α) :
    Scalar.select (IntOp.cmpi .eq (BitVec.ofNat 32 t.val) (BitVec.ofNat 32 a.val)) x y = if t = a then x else y := by
  have ha := a.isLt
  have ht := t.isLt
  rw [cmpi_eq_ofNat (by omega) (by omega), select_ofBool]
  simp only [decide_eq_true_eq, Fin.ext_iff]

/-- The word of a position isn't negative, so the wrap of a negative index leaves it. -/
theorem wrap_eq (a : Fin 2048) :
    Scalar.select (IntOp.cmpi .slt (BitVec.ofNat 32 a.val) 0#32)
        (IntOp.addi (BitVec.ofNat 32 a.val) 2048#32) (BitVec.ofNat 32 a.val) = BitVec.ofNat 32 a.val := by
  have ha := a.isLt
  rw [cmpi_slt_ofNat (b := 0) (by omega) (by omega), select_ofBool, if_neg (by simp)]

/-- The word of a position is in the range 0 to 2047. -/
theorem inBounds_eq (a : Fin 2048) :
    IntOp.andi (IntOp.cmpi .sge (BitVec.ofNat 32 a.val) 0#32) (IntOp.cmpi .sle (BitVec.ofNat 32 a.val) 2047#32) = 1#1 := by
  have ha := a.isLt
  rw [cmpi_sge_ofNat (b := 0) (by omega) (by omega), cmpi_sle_ofNat (b := 2047) (by omega) (by omega), andi_ofBool,
    ofBool_eq_one_iff, Bool.and_eq_true, decide_eq_true_eq, decide_eq_true_eq]
  omega

/-- Two words `p`, `q` with `0 ≤ p`, `p ≤ q` and `q < 2048`, read signed, are the words of two positions in this order. -/
theorem exists_positions {p q : BitVec 32}
    (h : IntOp.andi (IntOp.andi (IntOp.cmpi .sge p 0#32) (IntOp.cmpi .sle p q)) (IntOp.cmpi .slt q 2048#32) = 1#1) :
    ∃ a b : Fin 2048, p = BitVec.ofNat 32 a.val ∧ q = BitVec.ofNat 32 b.val ∧ a ≤ b := by
  rw [cmpi_sge_eq, cmpi_sle_eq, cmpi_slt_eq, andi_ofBool, andi_ofBool, ofBool_eq_one_iff, Bool.and_eq_true, Bool.and_eq_true,
    decide_eq_true_eq, decide_eq_true_eq, decide_eq_true_eq] at h
  have e0 : (0#32).toInt = 0 := by decide
  have e1 : (2048#32).toInt = 2048 := by decide
  rw [e0, e1] at h
  obtain ⟨⟨h0, h1⟩, h2⟩ := h
  have hp := (toInt_nonneg_iff_lt_half p).1 h0
  have hq := (toInt_nonneg_iff_lt_half q).1 (h0.trans h1)
  rw [toInt_eq_toNat_of_lt_half hp, toInt_eq_toNat_of_lt_half hq] at h1
  rw [toInt_eq_toNat_of_lt_half hq] at h2
  refine ⟨⟨p.toNat, by omega⟩, ⟨q.toNat, by omega⟩, (by simp), (by simp), ?_⟩
  show p.toNat ≤ q.toNat
  omega

end Cert.SpanWords
-- ==== Proof.SpanResult.lean ====
/- The result that both programs compute, as a function of the real numbers and the positions that the arguments hold: at
   batch row `i` and span `s`, the embedding row at the span's start, the embedding row at its end, and the mean of the
   embedding rows over the span, side by side. -/
module

public import proofs.«01_k».proof.Proof.SpanMean
public import proofs.«01_k».proof.Proof.SpanWords
public import Idealize.ShloMosaic.Lib.Pointwise

@[expose] public section

noncomputable section

namespace Cert.SpanResult

open Cert.SpanWords Idealize.ShloMosaic

/-- What the argument arrays hold: real embeddings, a real weight column and a real bias, and for each span the words of
    its start and end, two positions in order. -/
structure Args where
  e : Fin 8 → Fin 2048 → Fin 1024 → ℝ
  u : Fin 1024 → ℝ
  β : ℝ
  a : Fin 8 → Fin 256 → Fin 2048
  b : Fin 8 → Fin 256 → Fin 2048
  ordered : ∀ i s, a i s ≤ b i s

/-- The four argument arrays hold what `x` says. -/
structure Args.Held (x : Args) (E : FVec Ideal ⟨3, ![8, 2048, 1024]⟩ .f32) (sp : IVec ⟨3, ![8, 256, 2]⟩ 32)
    (W : FVec Ideal ⟨2, ![1024, 1]⟩ .f32) (bias : FVec Ideal ⟨1, ![1]⟩ .f32) : Prop where
  emb : ∀ i t k, E (ix3 i t k) = (x.e i t k : EReal)
  weight : ∀ k, W (ix2 k 0) = (x.u k : EReal)
  bias : bias (ix1 0) = (x.β : EReal)
  start : ∀ i s, sp (ix3 i s 0) = BitVec.ofNat 32 (x.a i s).val
  stop : ∀ i s, sp (ix3 i s 1) = BitVec.ofNat 32 (x.b i s).val

/-- The score of position `t` in batch row `i`, without the bias. -/
def Args.score (x : Args) (i : Fin 8) (t : Fin 2048) : ℝ := ∑ k, x.e i t k * x.u k

/-- The attention output of span `s` of batch row `i` at column `h`: the mean of the embeddings over the span, weighted by
    the exponentials of the scores. -/
def Args.attention (x : Args) (i : Fin 8) (s : Fin 256) (h : Fin 1024) : ℝ :=
  SpanMean.mean (InSpan (x.a i s) (x.b i s)) (x.score i) (fun t => x.e i t h)

/-- The result at batch row `i`, span `s` and column `h`. -/
def Args.resultAt (x : Args) (i : Fin 8) (s : Fin 256) (h : Fin 3072) : EReal :=
  if h₁ : h.val < 1024 then (x.e i (x.a i s) ⟨h.val, h₁⟩ : EReal)
  else if h₂ : h.val - 1024 < 1024 then (x.e i (x.b i s) ⟨h.val - 1024, h₂⟩ : EReal)
  else (x.attention i s ⟨h.val - 1024 - 1024, by have := h.isLt; omega⟩ : EReal)

/-- The result array. -/
def Args.result (x : Args) : FVec Ideal ⟨3, ![8, 256, 3072]⟩ .f32 := fun j => x.resultAt (j 0) (j 1) (j 2)

/-- The result array at an index given by its coordinates as numbers. -/
theorem Args.result_eq (x : Args) (j : (⟨3, ![8, 256, 3072]⟩ : Shape).Idx) (i : Fin 8) (s : Fin 256) (h : Fin 3072)
    (hi : (j 0).val = i.val) (hs : (j 1).val = s.val) (hh : (j 2).val = h.val) : x.result j = x.resultAt i s h := by
  have e0 : j 0 = i := Fin.ext hi
  have e1 : j 1 = s := Fin.ext hs
  have e2 : j 2 = h := Fin.ext hh
  show x.resultAt (j 0) (j 1) (j 2) = _
  rw [e0, e1, e2]

/-- The result in its first 1024 columns. -/
theorem Args.resultAt_start (x : Args) (i : Fin 8) (s : Fin 256) (h : Fin 3072) (k : Fin 1024) (hk : h.val = k.val) :
    x.resultAt i s h = (x.e i (x.a i s) k : EReal) := by
  have := k.isLt
  have e : (⟨h.val, by omega⟩ : Fin 1024) = k := Fin.ext hk
  rw [resultAt, dif_pos (by omega), e]

/-- The result in its second 1024 columns. -/
theorem Args.resultAt_stop (x : Args) (i : Fin 8) (s : Fin 256) (h : Fin 3072) (k : Fin 1024) (hk : h.val = 1024 + k.val) :
    x.resultAt i s h = (x.e i (x.b i s) k : EReal) := by
  have := k.isLt
  have e : (⟨h.val - 1024, by omega⟩ : Fin 1024) = k := Fin.ext (by show h.val - 1024 = k.val; omega)
  rw [resultAt, dif_neg (by omega), dif_pos (by omega), e]

/-- The result in its last 1024 columns. -/
theorem Args.resultAt_attention (x : Args) (i : Fin 8) (s : Fin 256) (h : Fin 3072) (k : Fin 1024)
    (hk : h.val = 2048 + k.val) : x.resultAt i s h = (x.attention i s k : EReal) := by
  have := k.isLt
  have e : (⟨h.val - 1024 - 1024, by have := h.isLt; omega⟩ : Fin 1024) = k :=
    Fin.ext (by show h.val - 1024 - 1024 = k.val; omega)
  rw [resultAt, dif_neg (by omega), dif_neg (by omega), e]

end Cert.SpanResult

end
-- ==== Proof.Inputs.lean ====
/- What the condition on the inputs gives: the argument arrays hold real numbers, and for each span the words of two positions
   in order. -/
module

public import proofs.«01_k».proof.Pre_inputs_ok
public import proofs.«01_k».proof.Proof.SpanResult
public import Idealize.ShloMosaic.Lib.Pointwise

@[expose] public section

set_option maxRecDepth 16384

noncomputable section

namespace Cert.Inputs

open Cert.Pre_inputs_ok Cert.SpanWords Cert.SpanResult Idealize.ShloMosaic

/-- The shape relations of the condition's operations. -/
theorem facts : Cert.Pre_inputs_ok.Facts := by constructor <;> decide

/-- The pattern of +∞. -/
theorem ofBits_pos_inf : Ideal.ofBits .f32 0x7F800000#32 = ⊤ := by simp [Ideal.ofBits, Ideal.ieee]

/-- A value whose absolute value is below +∞ is a real number. -/
theorem real_of_abs_lt {v : EReal} (h : BitVec.ofBool (decide (max v (-v) < ⊤)) = 1#1) : v = ((v.toReal : ℝ) : EReal) := by
  have hlt : max v (-v) < ⊤ := by
    by_contra hn
    rw [decide_eq_false hn] at h
    exact absurd h (by decide)
  have h1 : v ≠ ⊤ := fun e => by simp [e] at hlt
  have h2 : v ≠ ⊥ := fun e => by simp [e] at hlt
  exact (EReal.coe_toReal h1 h2).symm

variable [Cert.Pre_inputs_ok.Facts]

/-- Where the condition holds, the embeddings are real. -/
theorem emb_real {E : FVec Ideal S8x2048x1024 .f32} {sp : IVec S8x256x2 32} {W : FVec Ideal S1024x1 .f32}
    {bias : FVec Ideal S1 .f32} (h : (fn (F := Ideal) E sp W bias).1 = fun _ => 1#1) (i : Fin 8) (t : Fin 2048)
    (k : Fin 1024) : E (ix3 i t k) = ((E (ix3 i t k)).toReal : EReal) := by
  have e := congrFun h (ix3 i t k)
  unfold fn at e
  pointwise at e
  rw [ofBits_pos_inf] at e
  exact real_of_abs_lt e

/-- Where the condition holds, the weights are real. -/
theorem weight_real {E : FVec Ideal S8x2048x1024 .f32} {sp : IVec S8x256x2 32} {W : FVec Ideal S1024x1 .f32}
    {bias : FVec Ideal S1 .f32} (h : (fn (F := Ideal) E sp W bias).2.1 = fun _ => 1#1) (k : Fin 1024) :
    W (ix2 k 0) = ((W (ix2 k 0)).toReal : EReal) := by
  have e : cmpf .olt (Host.absf W) (broadcastInDim S1024x1 ![] Facts.bcast_S_S1024x1 (constant S_ .f32 0x7F800000#32)) (ix2 k 0)
      = 1#1 := congrFun h (ix2 k 0)
  pointwise at e
  rw [ofBits_pos_inf] at e
  exact real_of_abs_lt e

/-- Where the condition holds, the bias is real. -/
theorem bias_real {E : FVec Ideal S8x2048x1024 .f32} {sp : IVec S8x256x2 32} {W : FVec Ideal S1024x1 .f32}
    {bias : FVec Ideal S1 .f32} (h : (fn (F := Ideal) E sp W bias).2.2.1 = fun _ => 1#1) :
    bias (ix1 0) = ((bias (ix1 0)).toReal : EReal) := by
  have e : BitVec.ofBool (decide (max (bias (ix1 0)) (-(bias (ix1 0))) < Ideal.ofBits .f32 0x7F800000#32)) = 1#1 := congrFun h (ix1 0)
  rw [ofBits_pos_inf] at e
  exact real_of_abs_lt e

/-- Where the condition holds, the words of each span are those of two positions in order. -/
theorem span_positions {E : FVec Ideal S8x2048x1024 .f32} {sp : IVec S8x256x2 32} {W : FVec Ideal S1024x1 .f32}
    {bias : FVec Ideal S1 .f32} (h : (fn (F := Ideal) E sp W bias).2.2.2 = fun _ => 1#1) (i : Fin 8) (s : Fin 256) :
    ∃ a b : Fin 2048, sp (ix3 i s 0) = BitVec.ofNat 32 a.val ∧ sp (ix3 i s 1) = BitVec.ofNat 32 b.val ∧ a ≤ b := by
  have e := congrFun h (ix3 i s 0)
  unfold fn at e
  pointwise at e
  exact exists_positions e

/-- Where the condition holds, the argument arrays hold real numbers and spans of positions in order. -/
theorem exists_args {E : FVec Ideal S8x2048x1024 .f32} {sp : IVec S8x256x2 32} {W : FVec Ideal S1024x1 .f32}
    {bias : FVec Ideal S1 .f32}
    (h : (fn (F := Ideal) E sp W bias).1 = (fun _ => 1#1) ∧ (fn (F := Ideal) E sp W bias).2.1 = (fun _ => 1#1)
      ∧ (fn (F := Ideal) E sp W bias).2.2.1 = (fun _ => 1#1) ∧ (fn (F := Ideal) E sp W bias).2.2.2 = fun _ => 1#1) :
    ∃ x : Args, x.Held E sp W bias := by
  choose a b hab using span_positions h.2.2.2
  exact ⟨{ e := fun i t k => (E (ix3 i t k)).toReal
           u := fun k => (W (ix2 k 0)).toReal
           β := (bias (ix1 0)).toReal
           a := a
           b := b
           ordered := fun i s => (hab i s).2.2 },
    { emb := emb_real h.1
      weight := weight_real h.2.1
      bias := bias_real h.2.2.1
      start := fun i s => (hab i s).1
      stop := fun i s => (hab i s).2.1 }⟩

end Cert.Inputs

end
-- ==== Proof.KernelBlock.lean ====
/- What one grid point of the kernel computes, read at an index: from one batch row of embeddings, the batch row's spans
   (starts in row 0, ends in row 1) and the weight row, the three blocks of columns that it stores. -/
module

public import proofs.«01_k».proof.Proof.Gen.KernelIdeal.Skeleton
public import proofs.«01_k».proof.Proof.SpanMean
public import proofs.«01_k».proof.Proof.SpanWords
public import Idealize.ShloMosaic.Lib.Pointwise

@[expose] public section

set_option maxRecDepth 16384

noncomputable section

namespace Cert.KernelIdeal.Block

open Cert.KernelIdeal Cert.KernelIdeal.Gen Cert.SpanWords Idealize.ShloMosaic

variable (E : FVec Ideal S1x2048x1024 .f32) (w : FVec Ideal S1x1024 .f32) (sp : IVec S1x2x256 32)

/-- The first block of columns at span `s`: the embedding row at the span's start. -/
theorem start_rows (s : Fin 256) (h : Fin 1024) (a : Fin 2048) (ha : sp (ix3 0 0 s) = BitVec.ofNat 32 a.val) :
    k0_pay7 (F := Ideal) E sp (ix3 0 s h) = E (ix3 0 a h) := by
  pointwise [k0_pay7, k0_pay6, k0_pay5, k0_pay4, k0_pay3, k0_pay2]
  simp only [ha, select_eq]
  exact SpanMean.sum_one_hot (fun t => E (ix3 0 t h)) a

/-- The second block of columns at span `s`: the embedding row at the span's end. -/
theorem end_rows (s : Fin 256) (h : Fin 1024) (b : Fin 2048) (hb : sp (ix3 0 1 s) = BitVec.ofNat 32 b.val) :
    k0_pay8 (F := Ideal) E sp (ix3 0 s h) = E (ix3 0 b h) := by
  pointwise [k0_pay8, k0_pay6, k0_pay5, k0_pay4, k0_pay3, k0_pay2]
  simp only [hb, select_eq]
  exact SpanMean.sum_one_hot (fun t => E (ix3 0 t h)) b

/-- The weight of position `t` for span `s`: the exponential of the position's score inside the span, 0 outside. -/
theorem weights (t : Fin 2048) (s : Fin 256) (a b : Fin 2048) (ha : sp (ix3 0 0 s) = BitVec.ofNat 32 a.val)
    (hb : sp (ix3 0 1 s) = BitVec.ofNat 32 b.val) :
    k0_pay9 (F := Ideal) E w sp (ix2 t s)
      = if InSpan a b t then Ideal.exp (∑ k : Fin 1024, E (ix3 0 t k) * w (ix2 0 k)) else 0 := by
  pointwise [k0_pay9, k0_pay5, k0_pay4, k0_pay3, k0_pay2]
  rw [ha, hb, select_inSpan]

/-- The third block of columns from weights `x`: the weighted sum of the embedding rows times the reciprocal of the sum of
    the weights. -/
theorem weighted_rows (x : FVec Ideal S2048x256 .f32) (s : Fin 256) (h : Fin 1024) :
    k0_pay1 (F := Ideal) (k0_pay2 E) x (ix3 0 s h)
      = (∑ t : Fin 2048, x (ix2 t s) * E (ix3 0 t h)) * Ideal.div 1 (∑ t : Fin 2048, x (ix2 t s)) := by
  pointwise [k0_pay1, k0_pay2]

/-- The third block of columns at span `s`, of real embeddings `e` and a real weight row `u`: the mean of the embedding
    rows over the span, weighted by the exponentials of their scores. -/
theorem mean_rows (e : Fin 2048 → Fin 1024 → ℝ) (u : Fin 1024 → ℝ) (hE : ∀ t k, E (ix3 0 t k) = (e t k : EReal))
    (hw : ∀ k, w (ix2 0 k) = (u k : EReal)) (s : Fin 256) (h : Fin 1024) (a b : Fin 2048)
    (ha : sp (ix3 0 0 s) = BitVec.ofNat 32 a.val) (hb : sp (ix3 0 1 s) = BitVec.ofNat 32 b.val) (hab : a ≤ b) :
    k0_pay1 (F := Ideal) (k0_pay2 E) (k0_pay9 E w sp) (ix3 0 s h)
      = (SpanMean.mean (InSpan a b) (fun t => ∑ k, e t k * u k) (fun t => e t h) : EReal) := by
  rw [weighted_rows]
  simp only [weights E w sp _ s a b ha hb, hE, hw, ← EReal.coe_mul, SpanMean.coe_sum]
  exact SpanMean.unnormalised_eq_mean (InSpan a b) _ _ (exists_inSpan hab)

end Cert.KernelIdeal.Block

end
-- ==== Proof.KernelArray.lean ====
/- The kernel's result array after the run: each grid point writes the block of one batch row, the blocks tile the array,
   and every element is the result of the arguments. -/
module

public import proofs.«01_k».proof.Proof.Gen.KernelIdeal.Value
public import proofs.«01_k».proof.Proof.KernelBlock
public import proofs.«01_k».proof.Proof.SpanResult
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Cert.SpanResult
open Idealize.ShloMosaic Idealize.ShloMosaic.TcCoe Idealize.SL.Sem
open Idealize.ShloMosaic.Pipeline (Dat)

variable (m : (ℓ : Loc nD τ sig) → Buf (Elt Ideal) ℓ) (c : Dev nD)

/-- The block index of each window at grid point `t`: batch row `t` of the embeddings, of the spans and of the result, and
    the whole weight row. -/
theorem block_index : ∀ t : Fin cfg0.N, win0_0.index t = ![t.val, 0, 0] ∧ win0_1.index t = ![t.val, 0, 0]
    ∧ win0_2.index t = ![0, 0] ∧ win0_3.index t = ![t.val, 0, 0] :=
  (by decide +kernel : ∀ t : Fin grid0.N, _)

/-- Grid point `t` as a batch row. -/
abbrev row (t : Fin cfg0.N) : Fin 8 := ⟨t.val, t.isLt⟩

/-- The embeddings' block at grid point `t` is batch row `t` of the embeddings. -/
theorem emb_block (t : Fin cfg0.N) (r : Fin 2048) (k : Fin 1024) :
    iblk m c 0 t (ix3 0 r k) = m ((c : Thread nD τ).loc main_arg0) (ix3 (row t) r k) := by
  blk_ext [iblk, V, block_index t]

/-- The weight block is the weight column laid out as a row. -/
theorem weight_block (t : Fin cfg0.N) (k : Fin 1024) :
    iblk m c 2 t (ix2 0 k) = m ((c : Thread nD τ).loc main_arg2) (ix2 k 0) := by
  blk_point [iblk, V, block_index t]

/-- The spans' block at grid point `t` is batch row `t` of the spans, transposed. -/
theorem span_block (t : Fin cfg0.N) (q : Fin 2) (s : Fin 256) :
    iblk m c 1 t (ix3 0 q s) = m ((c : Thread nD τ).loc main_arg1) (ix3 (row t) s q) := by
  blk_point [iblk, V, block_index t]

/-- Where an element of grid point `t`'s result block lies in the result array. -/
theorem result_block (x : Args) (t : Fin cfg0.N) (y : ((cfg0.win 3).xblock (cfg0.grid.coords t)).Idx) (s : Fin 256)
    (h : Fin 3072) (hs : (y 1).val = s.val) (hh : (y 2).val = h.val) :
    x.result (((View.whole main_v2).slice (win0_3.rect t)).emb y) = x.resultAt (row t) s h := by
  have h0 : (y 0).val < 1 := (y 0).isLt
  refine x.result_eq _ _ _ _ ?_ ?_ ?_ <;> blk_simp [block_index t] <;> omega

/-- The kernel's result array after the run, when the argument arrays hold `x`: the result of `x`. -/
theorem final (x : Args) (hx : x.Held (m ((c : Thread nD τ).loc main_arg0)) (m ((c : Thread nD τ).loc main_arg1))
    (m ((c : Thread nD τ).loc main_arg2)) (m ((c : Thread nD τ).loc main_arg3))) :
    (dats m 0 c).arrAt 3 cfg0.N = x.result := by
  refine (dats m 0 c).arrAt_eq_of_covers 3 _ (by decide +kernel) fun t _ y => ?_
  blk_simp
  rw [after0_3]
  frame_out
  have ha : ∀ s, iblk m c 1 t (ix3 0 0 s) = BitVec.ofNat 32 (x.a (row t) s).val :=
    fun s => (span_block m c t 0 s).trans (hx.start _ s)
  have hb : ∀ s, iblk m c 1 t (ix3 0 1 s) = BitVec.ofNat 32 (x.b (row t) s).val :=
    fun s => (span_block m c t 1 s).trans (hx.stop _ s)
  have hE : ∀ r k, iblk m c 0 t (ix3 0 r k) = (x.e (row t) r k : EReal) :=
    fun r k => (emb_block m c t r k).trans (hx.emb _ r k)
  have hw : ∀ k, iblk m c 2 t (ix2 0 k) = (x.u k : EReal) := fun k => (weight_block m c t k).trans (hx.weight k)
  canon_tiles z h
  all_goals
    idx_vars z
    obtain rfl : z0 = 0 := Subsingleton.elim _ _
  · refine Eq.trans ?_ (result_block x t y z1 ⟨2048 + z2.val, by omega⟩ h1 h2).symm
    rw [x.resultAt_attention _ _ _ z2 rfl]
    exact Block.mean_rows _ _ _ _ _ hE hw z1 z2 _ _ (ha z1) (hb z1) (x.ordered _ z1)
  · refine Eq.trans ?_ (result_block x t y z1 ⟨1024 + z2.val, by omega⟩ h1 h2).symm
    rw [x.resultAt_stop _ _ _ z2 rfl]
    exact (Block.end_rows _ _ z1 z2 _ (hb z1)).trans (hE _ z2)
  · refine Eq.trans ?_ (result_block x t y z1 ⟨z2.val, by omega⟩ h1 h2).symm
    rw [x.resultAt_start _ _ _ z2 rfl]
    exact (Block.start_rows _ _ z1 z2 _ (ha z1)).trans (hE _ z2)

end Cert.KernelIdeal.Array

end
-- ==== Proof.ReferenceTake.lean ====
/- The reference's two lookups, read at an index: for each batch row and span, the embedding row at a position. A negative
   position is wrapped, one out of range gives a fill value; the word of a position below 2048 is neither. -/
module

public import proofs.«01_k».proof.Proof.Gen.ReferenceIdeal
public import proofs.«01_k».proof.Proof.SpanWords
public import Idealize.ShloMosaic.Lib.Pointwise

@[expose] public section

set_option maxRecDepth 16384

noncomputable section

namespace Cert.ReferenceIdeal.Reading

open Cert.ReferenceIdeal Cert.ReferenceIdeal.Gen Cert.SpanWords Idealize.ShloMosaic

/-- The gather that takes, for each batch row and span, one embedding row. -/
abbrev rowGather := gather_S8x2048x1024_S8x256x1_S8x256x1024_2_1_0_0_1_2_111024

/-- Where the gather finds its position words: batch row `i` and span `s`. -/
theorem gather_word_at (i : Fin 8) (s : Fin 256) (h : Fin 1024) (n : Fin rowGather.startIndexMap.length) :
    rowGather.siIdx (ix3 i s h) n = ix3 i s 0 := by
  funext b
  refine Fin.ext ?_
  match b with
  | ⟨0, _⟩ => rfl
  | ⟨1, _⟩ => rfl
  | ⟨2, _⟩ =>
    have hn : n.val < 1 := n.isLt
    show n.val = 0
    omega

/-- The gather at batch row `i`, span `s`, column `h`: where its position word is that of `a`, the element of row `a`. -/
theorem gather_at {α : Type} (X : S8x2048x1024.Idx → α) (p : IVec S8x256x1 32) (i : Fin 8) (s : Fin 256) (h : Fin 1024)
    (a : Fin 2048) (ha : p (ix3 i s 0) = BitVec.ofNat 32 a.val) :
    Host.gather rowGather X p (ix3 i s h) = X (ix3 i a h) := by
  have hlt := a.isLt
  unfold Host.gather
  refine congrArg X (funext fun d => Fin.ext ?_)
  show rowGather.start (ix3 i s h) p d + rowGather.batchCoord (ix3 i s h) d + rowGather.offCoord (ix3 i s h) d = _
  have hd : d = 0 ∨ d = 1 ∨ d = 2 := by
    match d with
    | ⟨0, _⟩ => exact .inl rfl
    | ⟨1, _⟩ => exact .inr (.inl rfl)
    | ⟨2, _⟩ => exact .inr (.inr rfl)
  rcases hd with rfl | rfl | rfl
  · rw [GatherDims.start_batching _ _ _ _ (by decide), GatherDims.offCoord_eq_zero _ _ _ (by decide), Nat.zero_add, Nat.add_zero]
    rfl
  · rw [GatherDims.batchCoord_eq_zero _ _ _ (by decide), GatherDims.offCoord_eq_zero _ _ _ (by decide), Nat.add_zero]
    unfold GatherDims.start
    rw [dif_pos (by decide), gather_word_at, ha, WordCmp.toInt_ofNat_of_lt (by omega)]
    show min a.val (2048 - 1) = a.val
    omega
  · rw [GatherDims.batchCoord_eq_zero _ _ _ (by decide), Nat.add_zero]
    unfold GatherDims.start
    rw [dif_neg (by decide), Nat.zero_add]
    rfl

/-- The position words after the wrap of negative ones. -/
def wrapped (p : IVec S8x256x1 32) : IVec S8x256x1 32 :=
  select (cmpi .slt p (broadcastInDim S8x256x1 ![] bcast_S_S8x256x1 (constantI S_ 32 0#32)))
    (addi p (broadcastInDim S8x256x1 ![] bcast_S_S8x256x1 (constantI S_ 32 2048#32))) p

/-- The bits that say whether a wrapped position word is in range. -/
def inRange (p : IVec S8x256x1 32) : IVec S8x256 1 :=
  Host.reduce IntOp.andi
    (andi (cmpi .sge (wrapped p) (broadcastInDim S8x256x1 ![] bcast_S_S8x256x1 (constantI S_ 32 0#32)))
      (cmpi .sle (wrapped p) (broadcastInDim S8x256x1 ![0, 1, 2] bcast_S1x1x1_S8x256x1_0_1_2
        (broadcastInDim S1x1x1 ![2] bcast_S1_S1x1x1_2 (constantI S1 32 2047#32)))))
    (constantI S_ 1 1#1) reducesTo_S8x256x1_S8x256_d2 h_S_

/-- The lookup: the gathered rows where the position is in range, the fill value elsewhere. -/
def take (X : FVec Ideal S8x2048x1024 .f32) (p : IVec S8x256x1 32) : FVec Ideal S8x256x1024 .f32 :=
  select (broadcastInDim S8x256x1024 ![0, 1] bcast_S8x256_S8x256x1024_0_1 (inRange p)) (Host.gather rowGather X (wrapped p))
    (broadcastInDim S8x256x1024 ![] bcast_S_S8x256x1024 (constant S_ .f32 0x7FC00000#32))

/-- The wrap leaves the word of a position. -/
theorem wrapped_at (p : IVec S8x256x1 32) (i : Fin 8) (s : Fin 256) (a : Fin 2048)
    (ha : p (ix3 i s 0) = BitVec.ofNat 32 a.val) : wrapped p (ix3 i s 0) = BitVec.ofNat 32 a.val := by
  pointwise [wrapped]
  rw [ha, wrap_eq]

/-- The word of a position is in range. -/
theorem inRange_at (p : IVec S8x256x1 32) (i : Fin 8) (s : Fin 256) (a : Fin 2048)
    (ha : p (ix3 i s 0) = BitVec.ofNat 32 a.val) : inRange p (ix2 i s) = 1#1 := by
  have hw := wrapped_at p i s a ha
  have hx : ∀ x : Fin 1, wrapped p (ix3 i s x) = BitVec.ofNat 32 a.val := fun x => by
    obtain rfl : x = 0 := Subsingleton.elim _ _
    exact hw
  pointwise [inRange]
  simp only [hx, inBounds_eq]
  decide

/-- The lookup at batch row `i`, span `s`, column `h`: where the position word is that of `a`, the element of row `a`. -/
theorem take_at (X : FVec Ideal S8x2048x1024 .f32) (p : IVec S8x256x1 32) (i : Fin 8) (s : Fin 256) (h : Fin 1024)
    (a : Fin 2048) (ha : p (ix3 i s 0) = BitVec.ofNat 32 a.val) : take X p (ix3 i s h) = X (ix3 i a h) := by
  pointwise [take]
  rw [inRange_at p i s a ha, gather_at X _ i s h a (wrapped_at p i s a ha)]
  rfl

end Cert.ReferenceIdeal.Reading

end
-- ==== Proof.ReferenceAttention.lean ====
/- The reference's attention, read at an index: the masked logits, their softmax over the positions, and its product with the
   embeddings. -/
module

public import proofs.«01_k».proof.Proof.Gen.ReferenceIdeal
public import proofs.«01_k».proof.Proof.SpanResult
public import Idealize.ShloMosaic.Lib.Pointwise

@[expose] public section

set_option maxRecDepth 16384

noncomputable section

namespace Cert.ReferenceIdeal.Reading

open Cert.ReferenceIdeal Cert.ReferenceIdeal.Gen Cert.SpanWords Cert.SpanResult Idealize.ShloMosaic

/-- The start words of the spans. -/
def starts (sp : IVec S8x256x2 32) : IVec S8x256 32 :=
  shapeCast S8x256 (extractStridedSlice S8x256x1 ![0, 0, 0] sp slices_S8x256x2_S8x256x1_0_0_0) shapeCasts_S8x256x1_S8x256

/-- The end words of the spans. -/
def ends (sp : IVec S8x256x2 32) : IVec S8x256 32 :=
  shapeCast S8x256 (extractStridedSlice S8x256x1 ![0, 0, 1] sp slices_S8x256x2_S8x256x1_0_0_1) shapeCasts_S8x256x1_S8x256

/-- One word per batch row and span, under a new last axis. -/
def asColumn (p : IVec S8x256 32) : IVec S8x256x1 32 := broadcastInDim S8x256x1 ![0, 1] bcast_S8x256_S8x256x1_0_1 p

/-- The start words at an index. -/
theorem starts_at (sp : IVec S8x256x2 32) (i : Fin 8) (s : Fin 256) : asColumn (starts sp) (ix3 i s 0) = sp (ix3 i s 0) := by
  pointwise [asColumn, starts]

/-- The end words at an index. -/
theorem ends_at (sp : IVec S8x256x2 32) (i : Fin 8) (s : Fin 256) : asColumn (ends sp) (ix3 i s 0) = sp (ix3 i s 1) := by
  pointwise [asColumn, ends]

/-- The position words, along the last axis. -/
def positions : IVec S8x256x2048 32 :=
  broadcastInDim S8x256x2048 ![0, 1, 2] bcast_S1x1x2048_S8x256x2048_0_1_2
    (broadcastInDim S1x1x2048 ![2] bcast_S2048_S1x1x2048_2 (iotaInDim S2048 32 0))

/-- The bits that say whether a position is in a span. -/
def spanMask (sp : IVec S8x256x2 32) : IVec S8x256x2048 1 :=
  andi (cmpi .sge positions (broadcastInDim S8x256x2048 ![0, 1, 2] bcast_S8x256x1_S8x256x2048_0_1_2 (asColumn (starts sp))))
    (cmpi .sle positions (broadcastInDim S8x256x2048 ![0, 1, 2] bcast_S8x256x1_S8x256x2048_0_1_2 (asColumn (ends sp))))

/-- The scores of the positions, the bias added. -/
def scores (E : FVec Ideal S8x2048x1024 .f32) (W : FVec Ideal S1024x1 .f32) (bias : FVec Ideal S1 .f32) :
    FVec Ideal S8x2048 .f32 :=
  shapeCast S8x2048
    (addf (Host.dotGeneral dot_S8x2048x1024_S1024x1_S8x2048x1_2_0_01_1_n_n none E W)
      (broadcastInDim S8x2048x1 ![0, 1, 2] bcast_S1x1x1_S8x2048x1_0_1_2 (broadcastInDim S1x1x1 ![2] bcast_S1_S1x1x1_2 bias)))
    shapeCasts_S8x2048x1_S8x2048

/-- The logits: the scores inside a span, -∞ outside. -/
def logits (E : FVec Ideal S8x2048x1024 .f32) (sp : IVec S8x256x2 32) (W : FVec Ideal S1024x1 .f32)
    (bias : FVec Ideal S1 .f32) : FVec Ideal S8x256x2048 .f32 :=
  select (spanMask sp)
    (broadcastInDim S8x256x2048 ![0, 1, 2] bcast_S8x1x2048_S8x256x2048_0_1_2
      (broadcastInDim S8x1x2048 ![0, 2] bcast_S8x2048_S8x1x2048_0_2 (scores E W bias)))
    (broadcastInDim S8x256x2048 ![] bcast_S_S8x256x2048 (id (constant S_ .f32 0xFF800000#32)))

/-- The largest logit of each span. -/
def largest (l : FVec Ideal S8x256x2048 .f32) : FVec Ideal S8x256 .f32 :=
  maximumf (broadcastInDim S8x256 ![] bcast_S_S8x256 (constant S_ .f32 0xFF800000#32))
    (Host.reduce FloatOps.maximumf l (constant S_ .f32 0xFF800000#32) reducesTo_S8x256x2048_S8x256_d2 h_S_)

/-- One number per batch row and span, repeated along the positions. -/
def alongPositions (x : FVec Ideal S8x256 .f32) : FVec Ideal S8x256x2048 .f32 :=
  broadcastInDim S8x256x2048 ![0, 1, 2] bcast_S8x256x1_S8x256x2048_0_1_2
    (broadcastInDim S8x256x1 ![0, 1] bcast_S8x256_S8x256x1_0_1 x)

/-- The exponentials of the logits lowered by the largest. -/
def lowered (l : FVec Ideal S8x256x2048 .f32) : FVec Ideal S8x256x2048 .f32 :=
  Host.exp (subf l (alongPositions (largest l)))

/-- The softmax of the logits over the positions. -/
def softmax (l : FVec Ideal S8x256x2048 .f32) : FVec Ideal S8x256x2048 .f32 :=
  Host.divf (lowered l)
    (alongPositions (Host.reduceAdd (lowered l) (constant S_ .f32 0x00000000#32) reducesTo_S8x256x2048_S8x256_d2 h_S_))

/-- The attention: the softmax against the embeddings. -/
def attention (E : FVec Ideal S8x2048x1024 .f32) (l : FVec Ideal S8x256x2048 .f32) : FVec Ideal S8x256x1024 .f32 :=
  Host.dotGeneral dot_S8x256x2048_S8x2048x1024_S8x256x1024_2_1_1_2_0_0 none (softmax l) E

/-- The pattern of -∞. -/
theorem ofBits_neg_inf : Ideal.ofBits .f32 0xFF800000#32 = ⊥ := by simp [Ideal.ofBits, Ideal.ieee]

/-- The logit of position `t` for span `s` of batch row `i`. -/
theorem logits_at (x : Args) {E : FVec Ideal S8x2048x1024 .f32} {sp : IVec S8x256x2 32} {W : FVec Ideal S1024x1 .f32}
    {bias : FVec Ideal S1 .f32} (hx : x.Held E sp W bias) (i : Fin 8) (s : Fin 256) (t : Fin 2048) :
    logits E sp W bias (ix3 i s t) = SpanMean.logit (InSpan (x.a i s) (x.b i s)) (x.score i) x.β t := by
  pointwise [logits, scores, spanMask, positions, asColumn, starts, ends]
  rw [hx.start, hx.stop, select_inSpan]
  simp only [hx.emb, hx.weight, hx.bias, ← EReal.coe_mul, SpanMean.coe_sum, id, constant_apply, ofBits_neg_inf]
  rfl

/-- The last axis of the logits is the one the maximum runs over. -/
theorem reduces_last : S8x256x2048.Reduces [2] S8x256 := by decide

/-- The index of a logit: batch row and span, with the position put in as the last coordinate. -/
theorem reduces_last_lift (i : Fin 8) (s : Fin 256) (t : Fin 2048) : reduces_last.lift (ix2 i s) t = ix3 i s t := by
  funext d
  refine Fin.ext ?_
  match d with
  | ⟨0, _⟩ => rfl
  | ⟨1, _⟩ => rfl
  | ⟨2, _⟩ => rfl

/-- The maximum over the last axis, from any initial value. -/
theorem reduce_max_at (l : FVec Ideal S8x256x2048 .f32) (z : FVec Ideal S_ .f32) (i : Fin 8) (s : Fin 256) :
    Host.reduce (FloatOps.maximumf (F := Ideal) (φ := .f32)) l z reducesTo_S8x256x2048_S8x256_d2 h_S_ (ix2 i s)
      = Finset.univ.fold (FloatOps.maximumf (F := Ideal) (φ := .f32)) (z (Shape.Idx.first h_S_)) fun t : Fin 2048 => l (ix3 i s t) := by
  rw [Host.reduce_eq_fold_single _ _ _ _ reduces_last]
  exact congrArg (Finset.univ.fold _ _) (funext fun t => congrArg l (reduces_last_lift i s t))

/-- A fold by the float maximum is a fold by the maximum of extended reals. -/
theorem fold_maximumf {n : Nat} (z : EReal) (f : Fin n → EReal) :
    (Finset.univ : Finset (Fin n)).fold (FloatOps.maximumf (F := Ideal) (φ := .f32)) z f = Finset.univ.fold max z f := rfl

/-- The float maximum of two arrays at an index. -/
theorem maximumf_at {s : Shape} (p q : FVec Ideal s .f32) (j : s.Idx) : maximumf p q j = max (p j : EReal) (q j) := rfl

/-- The largest logit of span `s` of batch row `i`. -/
theorem largest_at (l : FVec Ideal S8x256x2048 .f32) (i : Fin 8) (s : Fin 256) :
    largest l (ix2 i s) = max ⊥ (Finset.univ.fold max ⊥ fun t : Fin 2048 => l (ix3 i s t)) := by
  unfold largest
  refine (maximumf_at _ _ _).trans ?_
  refine congrArg₂ max ofBits_neg_inf ?_
  refine (reduce_max_at l _ i s).trans ?_
  refine (fold_maximumf _ _).trans ?_
  exact congrArg (fun z : EReal => Finset.univ.fold max z fun t : Fin 2048 => (l (ix3 i s t) : EReal)) ofBits_neg_inf

/-- The lowered exponential of position `t`. -/
theorem lowered_at (l : FVec Ideal S8x256x2048 .f32) (i : Fin 8) (s : Fin 256) (t : Fin 2048) :
    lowered l (ix3 i s t) = Ideal.exp (l (ix3 i s t) - max ⊥ (Finset.univ.fold max ⊥ fun u : Fin 2048 => l (ix3 i s u))) := by
  pointwise [lowered, alongPositions]
  rw [largest_at]

/-- The attention at batch row `i`, span `s` and column `h`, in terms of the logits. -/
theorem attention_at (E : FVec Ideal S8x2048x1024 .f32) (l : FVec Ideal S8x256x2048 .f32) (i : Fin 8) (s : Fin 256)
    (h : Fin 1024) :
    attention E l (ix3 i s h)
      = ∑ t : Fin 2048, Ideal.div (lowered l (ix3 i s t)) (∑ u : Fin 2048, lowered l (ix3 i s u)) * E (ix3 i t h) := by
  pointwise [attention, softmax, alongPositions]

/-- The attention of arguments that hold `x`: the weighted mean of the embeddings over the span. -/
theorem attention_eq (x : Args) {E : FVec Ideal S8x2048x1024 .f32} {sp : IVec S8x256x2 32} {W : FVec Ideal S1024x1 .f32}
    {bias : FVec Ideal S1 .f32} (hx : x.Held E sp W bias) (i : Fin 8) (s : Fin 256) (h : Fin 1024) :
    attention E (logits E sp W bias) (ix3 i s h) = (x.attention i s h : EReal) := by
  rw [attention_at]
  simp only [lowered_at, logits_at x hx, hx.emb]
  exact SpanMean.softmax_eq_mean _ _ _ _ (exists_inSpan (x.ordered i s))

end Cert.ReferenceIdeal.Reading

end
-- ==== Proof.ReferenceResult.lean ====
/- The reference's result array: the two lookups and the attention, side by side. -/
module

public import proofs.«01_k».proof.Proof.Gen.ReferenceIdeal.Run
public import proofs.«01_k».proof.Proof.ReferenceTake
public import proofs.«01_k».proof.Proof.ReferenceAttention

@[expose] public section

set_option maxRecDepth 16384

noncomputable section

namespace Cert.ReferenceIdeal.Reading

open Cert.ReferenceIdeal Cert.ReferenceIdeal.Gen Cert.SpanWords Cert.SpanResult Idealize.ShloMosaic Idealize.SL.Sem

/-- Three arrays side by side along the last axis. -/
def beside (p q r : FVec Ideal S8x256x1024 .f32) : FVec Ideal S8x256x3072 .f32 :=
  concatenate S8x256x3072 2 [⟨S8x256x1024, p⟩, ⟨S8x256x1024, q⟩, ⟨S8x256x1024, r⟩]
    concatenates_S8x256x1024_S8x256x1024_S8x256x1024_S8x256x3072_d2

/-- Three arrays side by side, at an index. -/
theorem beside_at (p q r : FVec Ideal S8x256x1024 .f32) (i : Fin 8) (s : Fin 256) (h : Fin 3072) :
    beside p q r (ix3 i s h)
      = if h₁ : h.val < 1024 then p (ix3 i s ⟨h.val, h₁⟩)
        else if h₂ : h.val - 1024 < 1024 then q (ix3 i s ⟨h.val - 1024, h₂⟩)
        else r (ix3 i s ⟨h.val - 1024 - 1024, by have := h.isLt; omega⟩) := by
  pointwise [beside]

/-- The reference's result as a function of the four argument arrays. -/
def whole (E : FVec Ideal S8x2048x1024 .f32) (sp : IVec S8x256x2 32) (W : FVec Ideal S1024x1 .f32)
    (bias : FVec Ideal S1 .f32) : FVec Ideal S8x256x3072 .f32 :=
  beside (take E (asColumn (starts sp))) (take E (asColumn (ends sp))) (attention E (logits E sp W bias))

/-- The reference's result of arguments that hold `x`. -/
theorem whole_eq (x : Args) {E : FVec Ideal S8x2048x1024 .f32} {sp : IVec S8x256x2 32} {W : FVec Ideal S1024x1 .f32}
    {bias : FVec Ideal S1 .f32} (hx : x.Held E sp W bias) : whole E sp W bias = x.result := by
  funext j
  obtain ⟨i, s, h, rfl⟩ : ∃ (i : Fin 8) (s : Fin 256) (h : Fin 3072), j = ix3 i s h := ⟨j 0, j 1, j 2, by
    funext d
    match d with
    | ⟨0, _⟩ => rfl
    | ⟨1, _⟩ => rfl
    | ⟨2, _⟩ => rfl⟩
  refine (beside_at _ _ _ i s h).trans ?_
  rw [x.result_eq (ix3 i s h) i s h rfl rfl rfl, Args.resultAt]
  split
  · exact (take_at _ _ i s _ (x.a i s) ((starts_at sp i s).trans (hx.start i s))).trans (hx.emb _ _ _)
  · split
    · exact (take_at _ _ i s _ (x.b i s) ((ends_at sp i s).trans (hx.stop i s))).trans (hx.emb _ _ _)
    · exact attention_eq x hx i s _

/-- The reference's result is that function of its arguments. -/
theorem result_whole (m : (ℓ : Loc nD τ sig) → Buf (Elt Ideal) ℓ) (c : Dev nD) :
    Cert.ReferenceIdeal.Value.res_out0 m c
      = whole (m ((c.tc : Thread nD τ).loc main_arg0)) (m ((c.tc : Thread nD τ).loc main_arg1))
          (m ((c.tc : Thread nD τ).loc main_arg2)) (m ((c.tc : Thread nD τ).loc main_arg3)) := rfl

/-- The reference's result on a device whose arguments hold `x`. -/
theorem final (m : (ℓ : Loc nD τ sig) → Buf (Elt Ideal) ℓ) (c : Dev nD) (x : Args)
    (hx : x.Held (m ((c.tc : Thread nD τ).loc main_arg0)) (m ((c.tc : Thread nD τ).loc main_arg1))
      (m ((c.tc : Thread nD τ).loc main_arg2)) (m ((c.tc : Thread nD τ).loc main_arg3))) :
    Cert.ReferenceIdeal.Value.res_out0 m c = x.result :=
  (result_whole m c).trans (whole_eq x hx)

end Cert.ReferenceIdeal.Reading

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Inputs
public import proofs.«01_k».proof.Proof.KernelArray
public import proofs.«01_k».proof.Proof.ReferenceResult
public import Idealize.ShloMosaic.Lib.Claim
public import Idealize.ShloMosaic.Adequacy
public import Idealize.ShloMosaic.Init

@[expose] public section

noncomputable section

namespace Cert.Proof

open Idealize.ShloMosaic Idealize.SL.Sem

/-- The kernel runs, leaves its arguments and ends quiescent. -/
theorem kernel_quiescent : quiescent_Kernel (hKernel := Cert.Kernel.Gen.facts) :=
  fun m g _ => Cert.Kernel.Gen.frame m g

/-- So does the kernel over the extended reals. -/
theorem kernelIdeal_quiescent : quiescent_KernelIdeal (hKernelIdeal := Cert.KernelIdeal.Gen.facts) :=
  fun m g _ => Cert.KernelIdeal.Gen.frame m g

/-- So it does on the inputs the condition admits. -/
theorem kernelIdeal_quiescent_inputs_ok :
    quiescent_KernelIdeal_pre_inputs_ok (hKernelIdeal := Cert.KernelIdeal.Gen.facts) (hPre_inputs_ok := Cert.Inputs.facts) :=
  fun m g _ => Cert.KernelIdeal.Gen.frame m g

/-- The reference runs, leaves its arguments and ends quiescent: it declares no semaphore. -/
theorem referenceIdeal_quiescent : quiescent_ReferenceIdeal (hReferenceIdeal := Cert.ReferenceIdeal.Gen.facts) :=
  fun m g _ => θ_run_mono (Cert.ReferenceIdeal.Value.run m g) fun r h => ⟨fun c => (h c).2, sem_eq_zero_of_no_sems (by decide) r.2⟩

/-- So it does on the inputs the condition admits. -/
theorem referenceIdeal_quiescent_inputs_ok :
    quiescent_ReferenceIdeal_pre_inputs_ok (hReferenceIdeal := Cert.ReferenceIdeal.Gen.facts)
      (hPre_inputs_ok := Cert.Inputs.facts) :=
  fun m g _ => referenceIdeal_quiescent m g trivial

/-- On inputs the condition admits, the reference's result is the kernel's: both are the result of the numbers and positions
    that the arguments hold. -/
theorem results_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Pre_KernelIdeal_inputs_ok (hPre_inputs_ok := Cert.Inputs.facts) m)
    (c : Dev Cert.KernelIdeal.nD)
    (hagree :
      m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
          = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
          = m ((c.tc : Thread Cert.KernelIdeal.nD Cert.KernelIdeal.τ).loc Cert.KernelIdeal.main_arg3)) :
    Cert.ReferenceIdeal.Value.res_out0 m' c = (Cert.KernelIdeal.Gen.dats m 0 c).arrAt 3 Cert.KernelIdeal.cfg0.N := by
  obtain ⟨x, hx⟩ := @Cert.Inputs.exists_args Cert.Inputs.facts _ _ _ _ (hpre c)
  refine (Cert.ReferenceIdeal.Reading.final m' c x ?_).trans (Cert.KernelIdeal.Array.final m c x hx).symm
  rw [hagree.1, hagree.2.1, hagree.2.2.1, hagree.2.2.2]
  exact hx

/-- The kernel over the extended reals and the reference end with the same result on the inputs the condition admits. -/
theorem kernelIdeal_eq_referenceIdeal :
    algebraic_KernelIdeal_ReferenceIdeal_pre_inputs_ok (hKernelIdeal := Cert.KernelIdeal.Gen.facts)
      (hReferenceIdeal := Cert.ReferenceIdeal.Gen.facts) (hPre_inputs_ok := Cert.Inputs.facts) :=
  fun m g m' g' hpre hagree =>
    ⟨fun c => (Cert.KernelIdeal.Gen.dats m 0 c).arrAt 3 Cert.KernelIdeal.cfg0.N, Cert.KernelIdeal.Value.run_blocks m g,
      θ_run_mono (Cert.ReferenceIdeal.Value.run m' g') fun _ h c =>
        ⟨(h c).1.trans (results_agree hpre c (hagree c)), (h c).2⟩⟩

theorem claim : Cert.Claim :=
  ⟨Cert.Kernel.Gen.facts, Cert.KernelIdeal.Gen.facts, Cert.ReferenceIdeal.Gen.facts, Cert.Inputs.facts, kernel_quiescent,
    kernelIdeal_quiescent, kernelIdeal_quiescent_inputs_ok, referenceIdeal_quiescent, referenceIdeal_quiescent_inputs_ok,
    trivial, kernelIdeal_eq_referenceIdeal⟩

end Cert.Proof

end
